-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S16907x200 : Shape := ⟨2, ![16907, 200]⟩
abbrev S8192x200 : Shape := ⟨2, ![8192, 200]⟩
abbrev S2x2048x200 : Shape := ⟨3, ![2, 2048, 200]⟩
abbrev S_ : Shape := ⟨0, ![]⟩
abbrev S1x2048x200 : Shape := ⟨3, ![1, 2048, 200]⟩
abbrev S2048x200 : Shape := ⟨2, ![2048, 200]⟩

abbrev nBuf : Table → Nat
  | .hbm => 3
  | .shared => 1
  | _ => 0

abbrev bufTy : (tb : Table) → Fin (nBuf tb) → BufTy
  | .hbm, ⟨0, _⟩ => ⟨S4x8192, .i32⟩
  | .hbm, ⟨1, _⟩ => ⟨S16907x200, .f32⟩
  | .hbm, ⟨2, _⟩ => ⟨S8192x200, .f32⟩
  | .shared, ⟨0, _⟩ => ⟨S2x2048x200, .f32⟩
  | _, _ => ⟨S4x8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg1_scs : Ref sig .scScalar := ⟨.hbm, 1, rfl⟩
abbrev main_v0_scs : Ref sig .scScalar := ⟨.hbm, 2, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c4096_i32 : BitVec 32 := 4096#32
  let v0 : BitVec 32 := Scalar.muli arg0 c4096_i32
  let c0_i32_2 : BitVec 32 := 0#32
  ![v0.toNat, 0]
def k0_off2 (i : grid0.Coords) : Fin 2 → Nat :=
  let arg0 : BitVec 32 := BitVec.ofNat 32 (i 0).val
  let c4096_i32 : BitVec 32 := 4096#32
  let v0 : BitVec 32 := Scalar.muli arg0 c4096_i32
  let c2048_i32 : BitVec 32 := 2048#32
  let v4 : BitVec 32 := Scalar.addi v0 c2048_i32
  let c0_i32_5 : BitVec 32 := 0#32
  ![v4.toNat, 0]
def k0_off3 (i : grid0.Coords) : Fin 2 → Nat :=
  let arg0 : BitVec 32 := BitVec.ofNat 32 (i 0).val
  let c4096_i32 : BitVec 32 := 4096#32
  let v0 : BitVec 32 := Scalar.muli arg0 c4096_i32
  let c0_i32_11 : BitVec 32 := 0#32
  ![v0.toNat, 0]
def k0_off4 (i : grid0.Coords) : Fin 2 → Nat :=
  let arg0 : BitVec 32 := BitVec.ofNat 32 (i 0).val
  let c4096_i32 : BitVec 32 := 4096#32
  let v0 : BitVec 32 := Scalar.muli arg0 c4096_i32
  let c2048_i32_18 : BitVec 32 := 2048#32
  let v17 : BitVec 32 := Scalar.addi v0 c2048_i32_18
  let c0_i32_20 : BitVec 32 := 0#32
  ![v17.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192 : Shape := ⟨2, ![4, 8192]⟩
abbrev S16907x200 : Shape := ⟨2, ![16907, 200]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x200 : Shape := ⟨2, ![8192, 200]⟩

abbrev nBuf : Space → Nat
  | .hbm => 26
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S16907x200, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x200, .f32⟩
  | .hbm, ⟨22, _⟩ => ⟨S8192x200, .i1⟩
  | .hbm, ⟨23, _⟩ => ⟨S_, .f32⟩
  | .hbm, ⟨24, _⟩ => ⟨S8192x200, .f32⟩
  | .hbm, ⟨25, _⟩ => ⟨S8192x200, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Rows.lean ====
/-
  The result as a function of the table, and nothing else: row `r` of the result is row `r` of the table, for the first
  8192 of the table's 16907 rows. Both sides of the value claims are shown to be this function, the kernel's in
  Launch.lean and the reference's in Lookup.lean.
-/
module

public import Idealize.ShloMosaic.Lib.ValueIdxCore

@[expose] public section

namespace Cert.Proof.Rows

open Idealize.ShloMosaic

/-- The place in the table that place `y` of the result is read from: the same row and the same column. -/
def place (y : (⟨2, ![8192, 200]⟩ : Shape).Idx) : (⟨2, ![16907, 200]⟩ : Shape).Idx :=
  ValueIdx.ix2 ⟨(y 0).val, Nat.lt_of_lt_of_le (ValueIdx.idx2_lt0 y) (by decide)⟩ ⟨(y 1).val, ValueIdx.idx2_lt1 y⟩

/-- The table's first 8192 rows. -/
def firstRows {α : Type} (t : (⟨2, ![16907, 200]⟩ : Shape).Idx → α) : (⟨2, ![8192, 200]⟩ : Shape).Idx → α :=
  fun y => t (place y)

/-- A place of the table with `y`'s row number and `y`'s column number is `place y`. -/
theorem eq_place (y : (⟨2, ![8192, 200]⟩ : Shape).Idx) (z : (⟨2, ![16907, 200]⟩ : Shape).Idx)
    (h0 : (z 0).val = (y 0).val) (h1 : (z 1).val = (y 1).val) : z = place y := by
  funext a
  refine Fin.ext ?_
  match a with
  | ⟨0, _⟩ => exact h0
  | ⟨1, _⟩ => exact h1

end Cert.Proof.Rows

end
-- ==== Proof.Pieces.lean ====
/-
  The pieces the copies move. A SparseCore's sequencer `i` (0 or 1) has rows `4096 i` to `4096 i + 4095` of the result
  to fill and fills them in two pieces of 2048 rows: each comes from the same rows of the table, through one of the two
  banks of the SparseCore's shared memory. Here: the pieces by name, as the kernel spells them; which elements each
  holds; that the four pieces of the result are the whole result, the four of the table are apart, and the two banks
  are the whole scratch; and what a piece of the result holds once its rows have come through a bank.
-/
module

public import proofs.«01_k».proof.Defs
public import proofs.«01_k».proof.Proof.Gen.KernelIdeal
public import proofs.«01_k».proof.Proof.Rows
public import Idealize.ShloMosaic.Lib.Tactic
public import Idealize.ShloMosaic.Lib.Ring

@[expose] public section

noncomputable section

namespace Cert.Proof.Pieces

open Cert.KernelIdeal Cert.KernelIdeal.Gen
open Idealize.ShloMosaic

/-! ## The pieces by name -/

/-- The table, the result and the two-bank scratch, as a sequencer addresses them. -/
abbrev table : Memref sig .scScalar .hbm S16907x200 .f32 := Memref.whole main_arg1_scs
abbrev result : Memref sig .scScalar .hbm S8192x200 .f32 := Memref.whole main_v0_scs
abbrev banks : Memref sig .scScalar .shared S2x2048x200 .f32 := Memref.whole cc0_scratch0

/-- Sequencer `i`'s first and second piece of the table, -/
abbrev tab0 (i : grid0.Coords) : Memref sig .scScalar .hbm S2048x200 .f32 :=
  table.slice (Rect.unit (s := S16907x200) (k0_off1 i) S2048x200.size (k0_off1_inb i)) (fun _ => rfl)
abbrev tab1 (i : grid0.Coords) : Memref sig .scScalar .hbm S2048x200 .f32 :=
  table.slice (Rect.unit (s := S16907x200) (k0_off2 i) S2048x200.size (k0_off2_inb i)) (fun _ => rfl)
/-- of the result, -/
abbrev out0 (i : grid0.Coords) : Memref sig .scScalar .hbm S2048x200 .f32 :=
  result.slice (Rect.unit (s := S8192x200) (k0_off3 i) S2048x200.size (k0_off3_inb i)) (fun _ => rfl)
abbrev out1 (i : grid0.Coords) : Memref sig .scScalar .hbm S2048x200 .f32 :=
  result.slice (Rect.unit (s := S8192x200) (k0_off4 i) S2048x200.size (k0_off4_inb i)) (fun _ => rfl)
/-- and the bank each goes through. -/
abbrev bank0 : Memref sig .scScalar .shared S2048x200 .f32 :=
  (banks.slice (Rect.unit (s := S2x2048x200) ![0, 0, 0] S1x2048x200.size inb_S2x2048x200_S1x2048x200_0_0_0) (fun _ => rfl)).squeeze
    S2048x200 squeezes_S1x2048x200_S2048x200
abbrev bank1 : Memref sig .scScalar .shared S2048x200 .f32 :=
  (banks.slice (Rect.unit (s := S2x2048x200) ![1, 0, 0] S1x2048x200.size inb_S2x2048x200_S1x2048x200_1_0_0) (fun _ => rfl)).squeeze
    S2048x200 squeezes_S1x2048x200_S2048x200

/-- The grid point of SparseCore `c`, -/
def point (c : Fin 2) : grid0.Coords := fun | 0 => c | ⟨_ + 1, h⟩ => absurd h (Nat.not_lt.2 (Nat.le_add_left _ _))

/-- and there are two of them. -/
theorem point_cases (i : grid0.Coords) : i = point 0 ∨ i = point 1 := by
  have two : ∀ j : Fin 2, j = 0 ∨ j = 1 := by decide
  rcases two (i 0) with h | h
  · left; funext a; obtain rfl : a = 0 := Subsingleton.elim _ _; exact h
  · right; funext a; obtain rfl : a = 0 := Subsingleton.elim _ _; exact h

/-! ## Which elements a piece holds -/

/-- A box of 2048 full rows of a 200-column array from row `r` on holds the elements of rows `r` to `r + 2047`. -/
theorem mem_rows {n r : Nat} {off : Fin 2 → Nat} (h : off = ![r, 0])
    (inb : ∀ a : Fin 2, off a + S2048x200.size a ≤ (⟨2, ![n, 200]⟩ : Shape).size a) (y : (⟨2, ![n, 200]⟩ : Shape).Idx) :
    y ∈ (Rect.unit (s := ⟨2, ![n, 200]⟩) off S2048x200.size inb).set ↔ r ≤ (y 0).val ∧ (y 0).val < r + 2048 := by
  subst h
  rw [Rect.mem_set_unit]
  constructor
  · intro H; exact H 0
  · intro H a
    match a with
    | ⟨0, _⟩ => exact H
    | ⟨1, _⟩ => exact ⟨Nat.zero_le _, by have := ValueIdx.idx2_lt1 y; show (y 1).val < 0 + 200; omega⟩

theorem mem_tab0 (i : grid0.Coords) (y : S16907x200.Idx) :
    y ∈ (tab0 i).view.set ↔ 4096 * (i 0).val ≤ (y 0).val ∧ (y 0).val < 4096 * (i 0).val + 2048 :=
  (iff_of_eq (congrArg (y ∈ ·) (View.set_slice_whole _ _))).trans (mem_rows (k0_off1_eq i) (k0_off1_inb i) y)
theorem mem_tab1 (i : grid0.Coords) (y : S16907x200.Idx) :
    y ∈ (tab1 i).view.set ↔ 4096 * (i 0).val + 2048 ≤ (y 0).val ∧ (y 0).val < 4096 * (i 0).val + 2048 + 2048 :=
  (iff_of_eq (congrArg (y ∈ ·) (View.set_slice_whole _ _))).trans (mem_rows (k0_off2_eq i) (k0_off2_inb i) y)
theorem mem_out0 (i : grid0.Coords) (y : S8192x200.Idx) :
    y ∈ (out0 i).view.set ↔ 4096 * (i 0).val ≤ (y 0).val ∧ (y 0).val < 4096 * (i 0).val + 2048 :=
  (iff_of_eq (congrArg (y ∈ ·) (View.set_slice_whole _ _))).trans (mem_rows (k0_off3_eq i) (k0_off3_inb i) y)
theorem mem_out1 (i : grid0.Coords) (y : S8192x200.Idx) :
    y ∈ (out1 i).view.set ↔ 4096 * (i 0).val + 2048 ≤ (y 0).val ∧ (y 0).val < 4096 * (i 0).val + 2048 + 2048 :=
  (iff_of_eq (congrArg (y ∈ ·) (View.set_slice_whole _ _))).trans (mem_rows (k0_off4_eq i) (k0_off4_inb i) y)

/-- A bank holds the elements with its number as their first coordinate. -/
theorem mem_bank {j : Nat} (inb : ∀ a : Fin 3, (![j, 0, 0] : Fin 3 → Nat) a + S1x2048x200.size a ≤ S2x2048x200.size a)
    (y : S2x2048x200.Idx) : y ∈ (Rect.unit (s := S2x2048x200) ![j, 0, 0] S1x2048x200.size inb).set ↔ (y 0).val = j := by
  rw [Rect.mem_set_unit]
  constructor
  · intro H
    have h0 : j ≤ (y 0).val ∧ (y 0).val < j + 1 := H 0
    omega
  · intro H a
    match a with
    | ⟨0, _⟩ => show j ≤ (y 0).val ∧ (y 0).val < j + 1; omega
    | ⟨1, _⟩ => exact ⟨Nat.zero_le _, by have : (y 1).val < 2048 := (y 1).isLt; show (y 1).val < 0 + 2048; omega⟩
    | ⟨2, _⟩ => exact ⟨Nat.zero_le _, by have : (y 2).val < 200 := (y 2).isLt; show (y 2).val < 0 + 200; omega⟩

theorem bank0_set : bank0.view.set = (Rect.unit (s := S2x2048x200) ![0, 0, 0] S1x2048x200.size inb_S2x2048x200_S1x2048x200_0_0_0).set := by
  simp only [Memref.view_squeeze, View.set_reshape]; exact View.set_slice_whole _ _
theorem bank1_set : bank1.view.set = (Rect.unit (s := S2x2048x200) ![1, 0, 0] S1x2048x200.size inb_S2x2048x200_S1x2048x200_1_0_0).set := by
  simp only [Memref.view_squeeze, View.set_reshape]; exact View.set_slice_whole _ _

/-! ## The pieces apart, and what they make up -/

/-- The elements of SparseCore `c`'s two pieces of the table, and of the result. -/
abbrev tabSet (c : Fin 2) : Finset S16907x200.Idx := (tab0 (point c)).view.set ∪ (tab1 (point c)).view.set
abbrev outSet (c : Fin 2) : Finset S8192x200.Idx := (out0 (point c)).view.set ∪ (out1 (point c)).view.set

/-- A SparseCore's two pieces of the table are apart, -/
theorem tab_apart (i : grid0.Coords) : Disjoint (tab0 i).view.set (tab1 i).view.set :=
  Finset.disjoint_left.mpr fun y h h' => by
    have h := (mem_tab0 i y).mp h; have h' := (mem_tab1 i y).mp h'; omega
/-- so are its two pieces of the result, -/
theorem out_apart (i : grid0.Coords) : Disjoint (out0 i).view.set (out1 i).view.set :=
  Finset.disjoint_left.mpr fun y h h' => by
    have h := (mem_out0 i y).mp h; have h' := (mem_out1 i y).mp h'; omega

theorem mem_tabSet (c : Fin 2) (y : S16907x200.Idx) :
    y ∈ tabSet c ↔ 4096 * c.val ≤ (y 0).val ∧ (y 0).val < 4096 * c.val + 4096 := by
  rw [Finset.mem_union]
  refine (or_congr (mem_tab0 (point c) y) (mem_tab1 (point c) y)).trans ?_
  show (4096 * c.val ≤ _ ∧ _ < 4096 * c.val + 2048) ∨ (4096 * c.val + 2048 ≤ _ ∧ _ < 4096 * c.val + 2048 + 2048) ↔ _
  omega
theorem mem_outSet (c : Fin 2) (y : S8192x200.Idx) :
    y ∈ outSet c ↔ 4096 * c.val ≤ (y 0).val ∧ (y 0).val < 4096 * c.val + 4096 := by
  rw [Finset.mem_union]
  refine (or_congr (mem_out0 (point c) y) (mem_out1 (point c) y)).trans ?_
  show (4096 * c.val ≤ _ ∧ _ < 4096 * c.val + 2048) ∨ (4096 * c.val + 2048 ≤ _ ∧ _ < 4096 * c.val + 2048 + 2048) ↔ _
  omega

/-- and the two SparseCores' pieces of either are apart. -/
theorem tabSet_apart (c c' : Fin 2) (h : c ≠ c') : Disjoint (tabSet c) (tabSet c') :=
  Finset.disjoint_left.mpr fun y hy hy' => by
    have hy := (mem_tabSet c y).mp hy; have hy' := (mem_tabSet c' y).mp hy'
    have hv : c.val ≠ c'.val := fun e => h (Fin.ext e)
    omega
theorem outSet_apart (c c' : Fin 2) (h : c ≠ c') : Disjoint (outSet c) (outSet c') :=
  Finset.disjoint_left.mpr fun y hy hy' => by
    have hy := (mem_outSet c y).mp hy; have hy' := (mem_outSet c' y).mp hy'
    have hv : c.val ≠ c'.val := fun e => h (Fin.ext e)
    omega

/-- Every element of the result is in a piece of one of the two SparseCores. -/
theorem outSet_all : Finset.univ.biUnion outSet = Finset.univ := by
  ext y
  simp only [Finset.mem_biUnion, Finset.mem_univ, true_and, iff_true]
  have hy : (y 0).val < 8192 := (y 0).isLt
  rcases Nat.lt_or_ge (y 0).val 4096 with h | h
  · exact ⟨0, (mem_outSet 0 y).mpr (by show 4096 * 0 ≤ _ ∧ _ < 4096 * 0 + 4096; omega)⟩
  · exact ⟨1, (mem_outSet 1 y).mpr (by show 4096 * 1 ≤ _ ∧ _ < 4096 * 1 + 4096; omega)⟩

/-- The two banks are apart, and every element of the scratch is in one of them. -/
theorem banks_apart : Disjoint bank0.view.set bank1.view.set := by
  rw [bank0_set, bank1_set]
  exact Finset.disjoint_left.mpr fun y h h' => by
    have h := (mem_bank _ y).mp h; have h' := (mem_bank _ y).mp h'; omega
theorem banks_all : bank0.view.set ∪ bank1.view.set = Finset.univ := by
  rw [bank0_set, bank1_set]
  ext y
  refine iff_of_true ?_ (Finset.mem_univ y)
  rw [Finset.mem_union]
  have hy : (y 0).val < 2 := (y 0).isLt
  rcases Nat.lt_or_ge (y 0).val 1 with h | h
  · exact .inl ((mem_bank _ y).mpr (by omega))
  · exact .inr ((mem_bank _ y).mpr (by omega))

/-! ## What a copy leaves -/

section Landed

variable {Val : EltTy → Type}

/-- A piece of contents `f` after a copy of `w` into it. -/
abbrev put {sp : Space} (M : Memref sig .scScalar sp S2048x200 .f32) (f : M.view.ty.Contents Val) (w : S2048x200.Idx → Val .f32) :
    M.view.ty.Contents Val :=
  M.view.writes Val f [⟨Rect.whole S2048x200, ReadAs.same.apply w⟩]

/-- A piece reads as what was last copied into it. -/
theorem read_put {sp : Space} (M : Memref sig .scScalar sp S2048x200 .f32) (f : M.view.ty.Contents Val) (w : S2048x200.Idx → Val .f32) :
    M.view.read Val (put M f w) = w := by
  funext x
  have h := View.read_writes_cons_emb (Val := Val) (v := M.view) (f := f) (Rect.whole S2048x200) (ReadAs.same.apply w) [] x
  rwa [Rect.emb_whole_apply] at h

/-- A piece of the result reads, at each of its places, as the array does there. -/
theorem read_out0 (i : grid0.Coords) (g : S8192x200.Idx → Val .f32) (x : S2048x200.Idx) :
    (out0 i).view.read Val g x = g ((out0 i).view.emb x) := rfl
theorem read_out1 (i : grid0.Coords) (g : S8192x200.Idx → Val .f32) (x : S2048x200.Idx) :
    (out1 i).view.read Val g x = g ((out1 i).view.emb x) := rfl

/-- A piece of the table reads as the table's first rows at the same places of the result. -/
theorem read_tab0 (i : grid0.Coords) (t : S16907x200.Idx → Val .f32) (x : S2048x200.Idx) :
    (tab0 i).view.read Val t x = Rows.firstRows t ((out0 i).view.emb x) := by
  refine congrArg t (Rows.eq_place _ _ ?_ ?_)
  · show k0_off1 i 0 + 1 * (x 0).val = k0_off3 i 0 + 1 * (x 0).val; rw [k0_off1_eq, k0_off3_eq]
  · show k0_off1 i 1 + 1 * (x 1).val = k0_off3 i 1 + 1 * (x 1).val; rw [k0_off1_eq, k0_off3_eq]
theorem read_tab1 (i : grid0.Coords) (t : S16907x200.Idx → Val .f32) (x : S2048x200.Idx) :
    (tab1 i).view.read Val t x = Rows.firstRows t ((out1 i).view.emb x) := by
  refine congrArg t (Rows.eq_place _ _ ?_ ?_)
  · show k0_off2 i 0 + 1 * (x 0).val = k0_off4 i 0 + 1 * (x 0).val; rw [k0_off2_eq, k0_off4_eq]
  · show k0_off2 i 1 + 1 * (x 1).val = k0_off4 i 1 + 1 * (x 1).val; rw [k0_off2_eq, k0_off4_eq]

/-- Sequencer `i`'s first piece of the result, after a copy of its first piece of the table through a bank into it,
    holds the table's first rows there; -/
theorem landed0 (i : grid0.Coords) (t : S16907x200.Idx → Val .f32) (f : S8192x200.Idx → Val .f32)
    (b : bank0.view.ty.Contents Val) (y : S8192x200.Idx) (hy : y ∈ (out0 i).view.set) :
    put (out0 i) f (bank0.view.read Val (put bank0 b ((tab0 i).view.read Val t))) y = Rows.firstRows t y := by
  obtain ⟨x, -, rfl⟩ := Finset.mem_map.mp hy
  rw [← read_tab0, read_put bank0]
  refine (read_out0 i (put (out0 i) f ((tab0 i).view.read Val t)) x).symm.trans ?_
  rw [read_put]
/-- and so does its second. -/
theorem landed1 (i : grid0.Coords) (t : S16907x200.Idx → Val .f32) (f : S8192x200.Idx → Val .f32)
    (b : bank1.view.ty.Contents Val) (y : S8192x200.Idx) (hy : y ∈ (out1 i).view.set) :
    put (out1 i) f (bank1.view.read Val (put bank1 b ((tab1 i).view.read Val t))) y = Rows.firstRows t y := by
  obtain ⟨x, -, rfl⟩ := Finset.mem_map.mp hy
  rw [← read_tab1, read_put bank1]
  refine (read_out1 i (put (out1 i) f ((tab1 i).view.read Val t)) x).symm.trans ?_
  rw [read_put]

end Landed

end Cert.Proof.Pieces

end
-- ==== Proof.Body.lean ====
/-
  What one sequencer does. From its pieces of the table and of the result, the two banks and its three cells at zero,
  the kernel's body runs to its end: both pieces of the result then hold the table's first rows there, the pieces of the
  table are as they were, and the cells are at zero again.

  The two copies out of the banks count on one cell, so the order they land in is open; the two waits after them take
  all that both bring. They are a batch of two on that cell, each delivering its piece of the result and its bank.
-/
module

public import proofs.«01_k».proof.Proof.Pieces
public import Idealize.ShloMosaic.Lib.SparseCore.Quiescent
public import Idealize.ShloMosaic.Lib.Pipeline.Kit

@[expose] public section

noncomputable section

namespace Cert.Proof.Body

open Cert.KernelIdeal Cert.KernelIdeal.Gen
open Idealize.ShloMosaic
open Idealize.ShloMosaic.SparseCore (S)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pieces

variable {F : FTy → Type}

/-! ## The logic the run is written in -/

abbrev 𝒱₀ : Variants := Variants.none
/-- The handshakes' rounds beside the transfers' counters. -/
abbrev UH : Type := URounds (GSem nD τ sig) ℕ
abbrev UU : Type := UH × Counters

local notation "𝕄" => MT nD τ sig (HIx 1) (Elt F) ℕ UU ℕ

/-- The sequencer at grid point `i` of device `d`. -/
abbrev seqr (d : Dev nD) (i : grid0.Coords) : Thread nD τ := S d ((i 0).castLE hcore0)

/-- A piece `M`, held by the sequencer at grid point `i`, at contents `f`. -/
abbrev holds (d : Dev nD) (i : grid0.Coords) {sp : Space} {s : Shape} (M : Memref sig .scScalar sp s .f32)
    (f : Buf (Elt F) (M.view.loc (seqr d i))) : sProp 𝕄 :=
  M.view.loc (seqr d i) ↦[M.view.set]{fullShare} f

/-- The three cells at zero: the two the copies into the banks count on, and the one both copies out count on. -/
abbrev cells (d : Dev nD) (c : Fin τ.nSC) : sProp 𝕄 :=
  iprop(semVal (S d c, SemLoc.dma cc0_scratch1.sem) 0 ∗ semVal (S d c, SemLoc.dma cc0_scratch2.sem) 0
    ∗ semVal (S d c, SemLoc.dma cc0_scratch3.sem) 0)

/-! ## The two copies out -/

section Run

variable [FloatOps F]

variable (d : Dev nD) (i : grid0.Coords) (t : S16907x200.Idx → Elt F .f32) (f : S8192x200.Idx → Elt F .f32)
  (b : S2x2048x200.Idx → Elt F .f32)

/-- A bank once its piece of the table is in it, and a piece of the result once the bank has been copied to it. -/
abbrev full0 : S2x2048x200.Idx → Elt F .f32 := put bank0 b ((tab0 i).view.read (Elt F) t)
abbrev full1 : S2x2048x200.Idx → Elt F .f32 := put bank1 b ((tab1 i).view.read (Elt F) t)
abbrev done0 : S8192x200.Idx → Elt F .f32 := put (out0 i) f (bank0.view.read (Elt F) (full0 i t b))
abbrev done1 : S8192x200.Idx → Elt F .f32 := put (out1 i) f (bank1.view.read (Elt F) (full1 i t b))

/-- What each of the two copies out delivers: its piece of the result, and its bank back. -/
def delivers : Fin 2 → sProp 𝕄
  | 0 => iprop(holds d i (out0 i) (done0 i t f b) ∗ holds d i bank0 (full0 i t b))
  | 1 => iprop(holds d i (out1 i) (done1 i t f b) ∗ holds d i bank1 (full1 i t b))

instance delivers_storable (k : Fin 2) : Storable upEmb (delivers d i t f b k) := by
  match k with
  | 0 => unfold delivers; infer_instance
  | 1 => unfold delivers; infer_instance

omit [FloatOps F] in
/-- Either piece of the result, so filled, holds the table's first rows. -/
theorem done0_rows : (holds d i (out0 i) (done0 i t f b) : sProp 𝕄) = holds d i (out0 i) (Rows.firstRows t) :=
  pointsTo_congr (landed0 i t f b)
omit [FloatOps F] in
theorem done1_rows : (holds d i (out1 i) (done1 i t f b) : sProp 𝕄) = holds d i (out1 i) (Rows.firstRows t) :=
  pointsTo_congr (landed1 i t f b)

/-! ## The run -/

/-- The body on the sequencer at grid point `i`: from its two pieces of the table at `t`, its two pieces of the result at
    anything, the two banks at anything and the three cells at zero, to the pieces of the table at `t`, the pieces of the
    result at the table's first rows, the banks at something and the cells at zero. `13107200` is what one copy of a piece
    counts: the bits of 2048 × 200 words of 32. -/
theorem seq_run (O : CellTallies nD τ sig (HIx 1)) (W : Waits sig (HIx 1)) :
    (iprop(Transfers.MayWaits (seqr d i) (none : HIx 1) O
        ∗ (holds d i (tab0 i) t ∗ holds d i (tab1 i) t) ∗ (holds d i (out0 i) f ∗ holds d i (out1 i) f)
        ∗ (holds d i bank0 b ∗ holds d i bank1 b) ∗ cells d ((i 0).castLE hcore0) ∗ owes (seqr d i) O W) : sProp 𝕄)
      ⊢ wp frame (wpE (defs₀ (F := F)) 𝒱₀ (seqr d i) none) Set.univ
          (cc0_sc_copy i table (Memref.isWhole_whole _) result (Memref.isWhole_whole _) banks (Memref.isWhole_whole _)
            cc0_scratch1 cc0_scratch2 cc0_scratch3)
          fun _ => iprop((holds d i (tab0 i) t ∗ holds d i (tab1 i) t)
            ∗ (holds d i (out0 i) (Rows.firstRows t) ∗ holds d i (out1 i) (Rows.firstRows t))
            ∗ ((∃ g, holds d i bank0 g) ∗ ∃ g, holds d i bank1 g) ∗ cells d ((i 0).castLE hcore0)
            ∗ ∃ W', owes (seqr d i) O W') := by
  obtain rfl | rfl := point_cases i
  all_goals
  iintro ⟨#Hmw, ⟨Ht0, Ht1⟩, ⟨Ho0, Ho1⟩, ⟨Hb0, Hb1⟩, ⟨Hs1, Hs2, Hs3⟩, HO⟩
  imod (Transfers.batch_alloc' (Lvl := ℕ) (countersEmb (U := UU)) (seqr d _) (none : HIx 1) 13107200 (delivers d _ t f b)
    (sm := .dma cc0_scratch3.sem) (E := Set.univ)) $$ Hs3 with HB
  sl_unfold [cc0_sc_copy]
  sl_exec
  sl_step
  ihave Ho0 := (Entails.of_eq (done0_rows d _ t f b)) $$ HB_dst0
  ihave Ho1 := (Entails.of_eq (done1_rows d _ t f b)) $$ HB_dst1
  isplitl [Ht0 Ht1]
  · isplitl [Ht0]; · iexact Ht0
    iexact Ht1
  isplitl [Ho0 Ho1]
  · isplitl [Ho0]; · iexact Ho0
    iexact Ho1
  isplitl [HB_src0 HB_src1]
  · isplitl [HB_src0]; · iexists _; iexact HB_src0
    iexists _; iexact HB_src1
  isplitl [Hs1 Hs2 HB]
  · isplitl [Hs1]; · iexact Hs1
    isplitl [Hs2]; · iexact Hs2
    iexact HB
  iexists _; iexact HO

end Run

end Cert.Proof.Body

end
-- ==== Proof.Launch.lean ====
/-
  The whole program. The TensorCore hands each of the two SparseCores its rows of the table and of the result, each
  sequencer runs its body, and the TensorCore gets the rows back: the result whole then holds the table's first 8192
  rows, both arguments are as they were, and every counter is at zero. This holds over any float values, since the
  program only copies; the idealized program and the program as compiled are both instances of it.
-/
module

public import proofs.«01_k».proof.Proof.Body

@[expose] public section

noncomputable section

namespace Cert.Proof.Launch

open Cert.KernelIdeal Cert.KernelIdeal.Gen
open Idealize.ShloMosaic
open Idealize.ShloMosaic.SparseCore (S)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Pieces Cert.Proof.Body

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

local notation "𝕄" => MT nD τ sig (HIx 1) (Elt F) ℕ UU ℕ

/-- Where the handshakes' rounds sit. -/
abbrev EH : Emb UH (MT nD τ sig (HIx 1) (Elt F) ℕ UU ℕ) := embL

/-! ## The arrays, and each SparseCore's share of them -/

/-- The ids, the table, the result; SparseCore `c`'s scratch. -/
abbrev idsLoc (d : Dev nD) : Loc nD τ sig := (SparseCore.T d).loc main_arg0
abbrev tabLoc (d : Dev nD) : Loc nD τ sig := (SparseCore.T d).loc main_arg1
abbrev outLoc (d : Dev nD) : Loc nD τ sig := (SparseCore.T d).loc main_v0
abbrev bankLoc (d : Dev nD) (c : Fin τ.nSC) : Loc nD τ sig := (S d c).loc cc0_scratch0

/-- SparseCore `c`'s rows of the table at `t`, and of the result at `f`. -/
abbrev share (d : Dev nD) (c : Fin 2) (t : Buf (Elt F) (tabLoc d)) (f : Buf (Elt F) (outLoc d)) : sProp 𝕄 :=
  iprop((tabLoc d ↦[tabSet c]{fullShare} t) ∗ outLoc d ↦[outSet c]{fullShare} f)

/-- The rows of the table no SparseCore reads. -/
abbrev unread (d : Dev nD) (t : Buf (Elt F) (tabLoc d)) : sProp 𝕄 :=
  tabLoc d ↦[Finset.univ \ Finset.univ.biUnion tabSet]{fullShare} t

/-- The table and the result, whole, are the two SparseCores' shares and the table's unread rows. -/
theorem whole_eq (d : Dev nD) (t : Buf (Elt F) (tabLoc d)) (f : Buf (Elt F) (outLoc d)) :
    (iprop((tabLoc d ↦{fullShare} t) ∗ outLoc d ↦{fullShare} f) : sProp 𝕄)
      = iprop((share d 0 t f ∗ share d 1 t f) ∗ unread d t) := by
  have ht : (tabLoc d ↦{fullShare} t : sProp 𝕄)
      = iprop(((tabLoc d ↦[tabSet 0]{fullShare} t) ∗ tabLoc d ↦[tabSet 1]{fullShare} t) ∗ unread d t) := by
    have h := pointsTo_split_subset (Name := ℕ) (U := UU) (Lvl := ℕ) (Ix := HIx 1) (ℓ := tabLoc d) (q := fullShare) (f := t)
      (Finset.subset_univ (Finset.univ.biUnion tabSet))
    rw [BI.equiv_iff.mp ⟨h.1, h.2⟩, pointsTo_biUnion _ _ fun a _ b _ hab => tabSet_apart a b hab, Ring.bigSep_fin2]
  have hf : (outLoc d ↦{fullShare} f : sProp 𝕄)
      = iprop((outLoc d ↦[outSet 0]{fullShare} f) ∗ outLoc d ↦[outSet 1]{fullShare} f) := by
    rw [← outSet_all, pointsTo_biUnion _ _ fun a _ b _ hab => outSet_apart a b hab, Ring.bigSep_fin2]
  rw [ht, hf]
  refine BI.equiv_iff.mp ⟨?_, ?_⟩
  · change (_ : sProp 𝕄) ⊢ _
    iintro ⟨⟨⟨Ht0, Ht1⟩, Hr⟩, Ho0, Ho1⟩
    isplitr [Hr]
    · isplitl [Ht0 Ho0]
      · isplitl [Ht0]; · iexact Ht0
        iexact Ho0
      isplitl [Ht1]; · iexact Ht1
      iexact Ho1
    iexact Hr
  · change (_ : sProp 𝕄) ⊢ _
    iintro ⟨⟨⟨Ht0, Ho0⟩, Ht1, Ho1⟩, Hr⟩
    isplitr [Ho0 Ho1]
    · isplitr [Hr]
      · isplitl [Ht0]; · iexact Ht0
        iexact Ht1
      iexact Hr
    isplitl [Ho0]; · iexact Ho0
    iexact Ho1

/-- A share is its sequencer's four pieces; -/
theorem share_eq (d : Dev nD) (c : Fin 2) (t : Buf (Elt F) (tabLoc d)) (f : Buf (Elt F) (outLoc d)) :
    (share d c t f : sProp 𝕄)
      = iprop((holds d (point c) (tab0 (point c)) t ∗ holds d (point c) (tab1 (point c)) t)
          ∗ holds d (point c) (out0 (point c)) f ∗ holds d (point c) (out1 (point c)) f) := by
  have ht := pointsTo_union (Name := ℕ) (U := UU) (Lvl := ℕ) (Ix := HIx 1) (ℓ := tabLoc d) (q := fullShare) (f := t) (tab_apart (point c))
  have hf := pointsTo_union (Name := ℕ) (U := UU) (Lvl := ℕ) (Ix := HIx 1) (ℓ := outLoc d) (q := fullShare) (f := f) (out_apart (point c))
  exact congr (congrArg BIBase.sep (BI.equiv_iff.mp ⟨ht.1, ht.2⟩)) (BI.equiv_iff.mp ⟨hf.1, hf.2⟩)

/-- and a SparseCore's scratch, at anything, is its two banks, -/
theorem banks_in (d : Dev nD) (c : Fin 2) (b : Buf (Elt F) (bankLoc d c)) :
    (bankLoc d c ↦{fullShare} b : sProp 𝕄) ⊢ iprop(holds d (point c) bank0 b ∗ holds d (point c) bank1 b) := by
  rw [← banks_all]
  exact (pointsTo_union banks_apart).1
/-- from and back. -/
theorem banks_out (d : Dev nD) (c : Fin 2) (b b' : Buf (Elt F) (bankLoc d c)) :
    (iprop(holds d (point c) bank0 b ∗ holds d (point c) bank1 b') : sProp 𝕄) ⊢ iprop(∃ g, bankLoc d c ↦{fullShare} g) := by
  refine BI.Entails.trans (pointsTo_join (ℓ := bankLoc d c) banks_apart) ?_
  rw [banks_all]
  change (_ : sProp 𝕄) ⊢ _
  iintro H
  iexists _; iexact H

/-! ## What the call hands over -/

variable (m : (ℓ : Loc nD τ sig) → Buf (Elt F) ℓ) (ρ : Dev nD → PrngReg)

/-- The table's first rows, what the result ends at. -/
abbrev rows (d : Dev nD) : Buf (Elt F) (outLoc d) := Rows.firstRows (m (tabLoc d))

/-- A SparseCore is started with its share as the launch memory has it, and hands it back with the table's rows in the
    result's. -/
def P : (K (F := F)).Pay (nD := nD) (Val := Elt F) (Name := ℕ) (U := UU) where
  st := fun q d c => share d ((K (F := F)).core q c) (m (tabLoc d)) (m (outLoc d))
  dn := fun q d c => share d ((K (F := F)).core q c) (m (tabLoc d)) (rows m d)
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## A sequencer's own cells and buffers -/

/-- The three cells the body counts on, as a set of counters. -/
abbrev three (d : Dev nD) (c : Fin τ.nSC) : Finset (GSem nD τ sig) :=
  {(S d c, .dma cc0_scratch1.sem), (S d c, .dma cc0_scratch2.sem), (S d c, .dma cc0_scratch3.sem)}

theorem three_own (d : Dev nD) (c : Fin τ.nSC) : three d c ⊆ ownCells (S d c) := fun g hg => by
  simp only [Finset.mem_insert, Finset.mem_singleton] at hg
  rcases hg with rfl | rfl | rfl
  all_goals
    exact mem_ownCells.mpr ⟨rfl, (show ∀ s : DmaSem sig, (SemLoc.dma s : SemLoc sig).isScoped .scScalar = true by decide) _⟩

/-- The sequencer's cells at zero are those three and the rest; -/
theorem cells_eq (d : Dev nD) (c : Fin τ.nSC) :
    (ownSems0 (S d c) : sProp 𝕄) = iprop(cells d c ∗ bigSep (ownCells (S d c) \ three d c) fun g => semVal g 0) := by
  have ne {a b : SemLoc sig} (h : a ≠ b) : ((S d c, a) : GSem nD τ sig) ≠ (S d c, b) := fun e => h (congrArg Prod.snd e)
  have h1 : ((S d c, .dma cc0_scratch1.sem) : GSem nD τ sig) ∉ ({(S d c, .dma cc0_scratch2.sem), (S d c, .dma cc0_scratch3.sem)} : Finset (GSem nD τ sig)) := by
    rw [Finset.mem_insert, Finset.mem_singleton, not_or]
    exact ⟨ne (by decide), ne (by decide)⟩
  have h2 : ((S d c, .dma cc0_scratch2.sem) : GSem nD τ sig) ∉ ({(S d c, .dma cc0_scratch3.sem)} : Finset (GSem nD τ sig)) := by
    rw [Finset.mem_singleton]
    exact ne (by decide)
  unfold SparseCore.Cfg.ownSems0
  rw [SparseCore.bigSep_sdiff_split' (three_own d c), SparseCore.bigSep_insert' h1, SparseCore.bigSep_insert' h2, bigSep_singleton]

/-- and its buffers are the scratch and the rest. -/
theorem bufs_eq (d : Dev nD) (c : Fin τ.nSC) :
    (ownBufs (S d c) : sProp 𝕄)
      = iprop((∃ b, bankLoc d c ↦{fullShare} b)
          ∗ bigSep ((ownRefs (τ := τ) (.scScalar c)).erase ((Proc.scScalar c).devRef cc0_scratch0)) fun r => iprop(∃ f, ((d, r) : Loc nD τ sig) ↦{fullShare} f)) := by
  unfold SparseCore.Cfg.ownBufs
  exact SparseCore.bigSep_erase' ((mem_ownRefs (p := Proc.scScalar c) (b := (Proc.scScalar c).devRef cc0_scratch0)).mpr rfl)

/-! ## A sequencer's task -/

variable [FloatOps F]

/-- The body on SparseCore `c`'s sequencer, from the share it is started with and its own buffers and cells, to the share
    it hands back and its buffers and cells. -/
theorem task (d : Dev nD) (c : Fin 2) (O : CellTallies nD τ sig (HIx 1)) (W : Waits sig (HIx 1)) (hO : ∀ g, O g none = 0) :
    iprop(levAts (K (F := F)).L (K (F := F)).lev ∗ emp ∗ share d c (m (tabLoc d)) (m (outLoc d))
        ∗ scopedBufs (S d c) ∗ scopedSems0 (S d c) ∗ owes (S d c) O W)
      ⊢ wp frame (wpE (defs₀ (F := F)) 𝒱₀ (seqr d (point c)) none) Set.univ
          (cc0_sc_copy (point c) table (Memref.isWhole_whole _) result (Memref.isWhole_whole _) banks (Memref.isWhole_whole _)
            cc0_scratch1 cc0_scratch2 cc0_scratch3)
          fun _ => iprop(share d c (m (tabLoc d)) (rows m d) ∗ scopedBufs (S d c) ∗ scopedSems0 (S d c)
            ∗ ∃ W', ⌜∀ p ∈ W', p ∈ W ∨ p.2 = none ∨ p.2 = some (0 : Fin 1)⌝ ∗ owes (S d c) O W') := by
  rw [(K (F := F)).scopedBufs_S facts d _, SparseCore.Cfg.scopedSems0_S (Val := Elt F) d _, cells_eq, bufs_eq, share_eq, share_eq]
  iintro ⟨#Hlv, -, ⟨Ht, Ho⟩, ⟨⟨⟨%b, Hb⟩, Hbufs⟩, Htiles⟩, ⟨⟨HC, Hsems⟩, HtileSems⟩, HO⟩
  ihave Hmw := ((K (F := F)).mayWaits_none (thr := S d c) hO) $$ Hlv
  ihave Hbs := (banks_in d c b) $$ Hb
  iapply (wp_wand_r Idealize.ShloMosaic.frame (wpE (defs₀ (F := F)) 𝒱₀ (seqr d (point c)) none) Set.univ)
  isplitl [Ht Ho Hbs HC HO]
  · iapply (seq_run d (point c) (m (tabLoc d)) (m (outLoc d)) b O W)
    isplitr; · iexact Hmw
    isplitl [Ht]; · iexact Ht
    isplitl [Ho]; · iexact Ho
    isplitl [Hbs]; · iexact Hbs
    isplitl [HC]; · iexact HC
    iexact HO
  iintro %_ ⟨Ht, Ho, ⟨⟨%g0, Hb0⟩, %g1, Hb1⟩, HC, %W', HO⟩
  isplitl [Ht Ho]
  · isplitl [Ht]; · iexact Ht
    iexact Ho
  isplitl [Hb0 Hb1 Hbufs Htiles]
  · isplitr [Htiles]
    · isplitr [Hbufs]
      · iapply (banks_out d c g0 g1)
        isplitl [Hb0]; · iexact Hb0
        iexact Hb1
      iexact Hbufs
    iexact Htiles
  isplitl [HC Hsems HtileSems]
  · isplitr [HtileSems]
    · isplitl [HC]; · iexact HC
      iexact Hsems
    iexact HtileSems
  iexists W'; isplitr
  · ipureintro; intro p _
    rcases p.2 with _ | q
    · exact .inr (.inl rfl)
    · exact .inr (.inr (congrArg some (Subsingleton.elim q 0)))
  · iexact HO

theorem table_scalar (c : Fin τ.nSC) :
    defs₀ (F := F) (.scScalar c) 0 ()
      = SparseCore.onCore hcore0 (fun c => cc0_sc_copy (point c) table (Memref.isWhole_whole _) result (Memref.isWhole_whole _)
          banks (Memref.isWhole_whole _) cc0_scratch1 cc0_scratch2 cc0_scratch3) ⟨⟩ c := rfl

/-- The launch theorem's obligation at the one call: either sequencer does its task. -/
theorem scalar : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [table_scalar]; simp only [SparseCore.onCore, hc, ↓reduceDIte]
  exact task m d c O W hO

/-! ## The TensorCore -/

/-- The ghost state the launch starts with: the handshakes' rounds, and no transfer counted. -/
def u₀ : UU := (initOf (K (F := F)).hsCells (K (F := F)).hsToks, 1)

theorem start : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have none_own : (bigSep Finset.univ fun thr : Thread nD τ => bigSep Finset.univ fun q : Fin 1 => (P (F := F) m).x q thr)
      = (iprop(emp) : sProp 𝕄) :=
    (bigSep_congr fun _ _ => bigSep_univ_of_subsingleton (0 : Fin 1)).trans (bigSep_emp_const _)
  have none_dev : (bigSep Finset.univ fun _ : Dev nD => iprop(emp)) = (iprop(emp) : sProp 𝕄) := bigSep_emp_const _
  rw [none_own, none_dev]
  isplitr <;> iempintro

/-- The TensorCore's buffers are the ids, the table and the result. -/
theorem arrays_eq (d : Dev nD) (W : (b : Ref sig .tc) → Buf (Elt F) ((d.tc : Thread nD τ).loc b)) :
    (unscopedBufs d W : sProp 𝕄)
      = iprop((idsLoc d ↦{fullShare} W main_arg0) ∗ (tabLoc d ↦{fullShare} W main_arg1) ∗ outLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for its two SparseCores, -/
theorem st_eq (d : Dev nD) : (bigSep Finset.univ fun c : Fin ((K (F := F)).nCore 0) => (P m).st 0 d c)
    = iprop(share d 0 (m (tabLoc d)) (m (outLoc d)) ∗ share d 1 (m (tabLoc d)) (m (outLoc d))) :=
  Ring.bigSep_fin2 fun c => share d c (m (tabLoc d)) (m (outLoc d))
/-- and what it gives back. -/
theorem dn_eq (d : Dev nD) : (bigSep Finset.univ fun c : Fin ((K (F := F)).nCore 0) => (P m).dn 0 d c)
    = iprop(share d 0 (m (tabLoc d)) (rows m d) ∗ share d 1 (m (tabLoc d)) (rows m d)) :=
  Ring.bigSep_fin2 fun c => share d c (m (tabLoc d)) (rows m d)

/-- What the program ends with: the ids and the table as launched, the result at the table's first rows. -/
abbrev FIN (d : Dev nD) : sProp 𝕄 :=
  iprop((idsLoc d ↦{fullShare} m (idsLoc d)) ∗ (tabLoc d ↦{fullShare} m (tabLoc d)) ∗ outLoc d ↦{fullShare} rows m d)

/-- The program on the TensorCore: the one call, from the two shares to the two shares. -/
theorem tensor (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Hi, Ht, Ho⟩, Hts, -⟩, -⟩
  ihave Hto := (Entails.of_eq (whole_eq (F := F) d (m (tabLoc d)) (m (outLoc d)))) $$ [Ht Ho]
  · isplitl [Ht]; · iexact Ht
    iexact Ho
  icases Hto with ⟨Hsh, Hr⟩
  iapply ((K (F := F)).wp_run (D (F := F)) 𝒱 (EH := EH) (P := P m) κ d 0) $$ [Hst Hsh Hi Hr Hb Hts]
  isplitr; · iexact Hctx
  isplitl [Hst]; · iexact Hst
  isplitl [Hsh]
  · rw [st_eq]; iexact Hsh
  iintro ⟨Hst, Hdn⟩
  ihave Hsh := (Entails.of_eq (dn_eq m d)) $$ Hdn
  ihave Hto := (Entails.of_eq (whole_eq (F := F) d (m (tabLoc d)) (rows m d)).symm) $$ [Hsh Hr]
  · isplitl [Hsh]; · iexact Hsh
    iexact Hr
  icases Hto with ⟨Ht, Ho⟩
  imodintro
  isplitl [Hst]; · iexact Hst
  isplitr [Hb Hts]
  · isplitl [Hi]; · iexact Hi
    isplitl [Ht]; · iexact Ht
    iexact Ho
  isplitl [Hb] <;> iassumption

/-! ## The run -/

/-- What a final memory shows of device `d`: the ids and the table as launched, the result at the table's first rows. -/
def shows (d : Dev nD) (s' : Phys nD τ sig (Elt F)) : Prop :=
  s'.mem.mem (idsLoc d) = m (idsLoc d) ∧ s'.mem.mem (tabLoc d) = m (tabLoc d) ∧ s'.mem.mem (outLoc d) = rows m d

theorem final (d : Dev nD) (s' : Phys nD τ sig (Elt F)) : iprop(FIN m d ∗ SI s') ⊢ (⌜shows m d s'⌝ : sProp 𝕄) := by
  iintro ⟨⟨Hi, Ht, Ho⟩, HSI⟩
  icombine HSI Hi gives %hi
  icombine HSI Ht gives %ht
  icombine HSI Ho gives %ho
  ipureintro
  exact ⟨funext fun y => hi y (Finset.mem_univ y), funext fun y => ht y (Finset.mem_univ y), funext fun y => ho y (Finset.mem_univ y)⟩

/-- What the program's run ends in. -/
def Post : PUnit × MemSt nD τ sig (Elt F) → Prop := fun r =>
  (∀ d : Dev nD, r.2.mem (idsLoc d) = m (idsLoc d) ∧ r.2.mem (tabLoc d) = m (tabLoc d) ∧ r.2.mem (outLoc d) = rows m d)
    ∧ r.2.sem = fun _ => 0

/-- Over any float values and from any memory with every counter at zero, the program runs to its end: the ids and the
    table are as they were, the result holds the table's first 8192 rows, and every counter is at zero. -/
theorem run_main [∀ e, Nonempty (Elt F e)] :
    θ_run (Cert.KernelIdeal.defs (F := F)) (Cert.KernelIdeal.threads (F := F)) ⟨m, fun _ => 0, ρ⟩ (Post m) :=
  SparseCore.Cfg.θ_run_sc_quiescent (K := K (F := F)) (D := D (F := F)) (𝒱 := 𝒱) (EH := EH) (P := P m) (A := ∅) facts v₀
    (fun q _ => match q with | 0 => scalar m)
    (fun q hq => match q with | 0 => nomatch hq)
    (fun q hq => match q with | 0 => nomatch hq)
    m ρ main (fun _ => iprop(emp)) (FIN m) (u₀ (F := F)) (sep_elim_left.trans (start m)) (tensor m ρ) (shows m) (final m) (Post m)
    (fun _ h hz => ⟨h, hz⟩)

end Cert.Proof.Launch

end
-- ==== Proof.Lookup.lean ====
/-
  What the reference computes. It looks rows 0, 1, …, 8191 of the table up as a general lookup does: a negative row
  number counts from the table's end, and a row outside the table reads as a filler. No row number here is negative or
  past the table's last row, 16906, so what it computes is the table's first 8192 rows.
-/
module

public import proofs.«01_k».proof.Defs
public import proofs.«01_k».proof.Proof.Gen.Reference
public import proofs.«01_k».proof.Proof.Gen.Reference.Run
public import proofs.«01_k».proof.Proof.Gen.ReferenceIdeal
public import proofs.«01_k».proof.Proof.Gen.ReferenceIdeal.Run
public import proofs.«01_k».proof.Proof.Rows
public import Idealize.ShloMosaic.Lib.Routing.Ops
public import Idealize.ShloMosaic.Lib.ReduceAll
public import Idealize.ShloMosaic.Lib.Quiescent

@[expose] public section

noncomputable section

namespace Cert.Proof.Lookup

open Cert.ReferenceIdeal Cert.ReferenceIdeal.Gen
open Idealize.ShloMosaic Idealize.SL.Sem

/-! ## The reference's steps -/

/-- The row numbers, each moved up by the table's length where it is negative; -/
def numbers : IVec S8192 32 :=
  select (cmpi .slt (iotaInDim S8192 32 0) (broadcastInDim S8192 ![] bcast_S_S8192 (constantI S_ 32 0#32)))
    (addi (iotaInDim S8192 32 0) (broadcastInDim S8192 ![] bcast_S_S8192 (constantI S_ 32 16907#32))) (iotaInDim S8192 32 0)
/-- as a column; -/
def column : IVec S8192x1 32 := broadcastInDim S8192x1 ![0] bcast_S8192_S8192x1_0 numbers
/-- which of them are rows of the table; -/
def inTable : IVec S8192 1 :=
  Host.reduce IntOp.andi
    (andi (cmpi .sge column (broadcastInDim S8192x1 ![] bcast_S_S8192x1 (constantI S_ 32 0#32)))
      (cmpi .sle column (broadcastInDim S8192x1 ![0, 1] bcast_S1x1_S8192x1_0_1 (broadcastInDim S1x1 ![1] bcast_S1_S1x1_1 (constantI S1 32 16906#32)))))
    (constantI S_ 1 1#1) reducesTo_S8192x1_S8192_d1 h_S_
/-- and the lookup: the table's rows of those numbers, the filler `z` elsewhere. -/
def looked {α : Type} (t : S16907x200.Idx → α) (z : S8192x200.Idx → α) : S8192x200.Idx → α :=
  select (broadcastInDim S8192x200 ![0] bcast_S8192_S8192x200_0 inTable)
    (Host.gather gather_S16907x200_S8192x1_S8192x200_1_0_n_n_0_1_1200 t column) z

/-! ## What each holds -/

/-- The `j`-th row number is `j`: it is not negative. -/
theorem numbers_apply (j : S8192.Idx) : numbers j = BitVec.ofNat 32 (j 0).val := by
  have hj : (j 0).val < 8192 := (j 0).isLt
  refine if_neg fun h => ?_
  have h' := (StableHlo.Predicate.slt_iff_toNat (a := BitVec.ofNat 32 (j 0).val) (b := 0#32)
    (by rw [BitVec.toNat_ofNat]; omega) (by decide)).mp h
  exact Nat.not_lt_zero _ h'

theorem column_apply (e : S8192x1.Idx) : column e = BitVec.ofNat 32 (e 0).val := by
  unfold column broadcastInDim
  rw [numbers_apply]
  rfl

/-- Every row number is a row of the table. -/
theorem inTable_apply (j : S8192.Idx) : inTable j = 1#1 := by
  refine Host.reduce_andi_one _ _ _ _ j rfl fun e => ?_
  have he : (e 0).val < 8192 := (e 0).isLt
  have hv : (BitVec.ofNat 32 (e 0).val).toNat = (e 0).val := by rw [BitVec.toNat_ofNat]; omega
  have low : IntOp.cmpi .sge (column e) 0#32 = 1#1 := by
    rw [column_apply]
    exact (StableHlo.Predicate.sge_iff_toNat (by omega) (by decide)).mpr (Nat.zero_le _)
  have high : IntOp.cmpi .sle (column e) 16906#32 = 1#1 := by
    rw [column_apply]
    exact (StableHlo.Predicate.sle_iff_toNat (by omega) (by decide)).mpr (by rw [hv]; show (e 0).val ≤ 16906; omega)
  show IntOp.andi (IntOp.cmpi .sge (column e) 0#32) (IntOp.cmpi .sle (column e) 16906#32) = 1#1
  rw [low, high]
  rfl

/-- The lookup is the table's first 8192 rows, whatever the filler. -/
theorem looked_eq {α : Type} (t : S16907x200.Idx → α) (z : S8192x200.Idx → α) : looked t z = Rows.firstRows t := by
  funext y
  have hy : y = ValueIdx.ix2 ⟨(y 0).val, ValueIdx.idx2_lt0 y⟩ ⟨(y 1).val, ValueIdx.idx2_lt1 y⟩ := by
    funext a
    match a with
    | ⟨0, _⟩ => rfl
    | ⟨1, _⟩ => rfl
  have hin : broadcastInDim S8192x200 ![0] bcast_S8192_S8192x200_0 inTable y = 1#1 := inTable_apply _
  unfold looked select
  rw [hin]
  show Host.gather gather_S16907x200_S8192x1_S8192x200_1_0_n_n_0_1_1200 t column y = _
  refine (congrArg (Host.gather gather_S16907x200_S8192x1_S8192x200_1_0_n_n_0_1_1200 t column) hy).trans ?_
  exact Routing.gather_row gather_S16907x200_S8192x1_S8192x200_1_0_n_n_0_1_1200 rfl rfl rfl rfl rfl t column _ _
    ⟨(y 0).val, Nat.lt_of_lt_of_le (ValueIdx.idx2_lt0 y) (by decide)⟩ (column_apply _) (by decide)

/-! ## The reference's run -/

section Run

variable {F : FTy → Type} [FloatOps F]

/-- Over any float values and from any memory with every counter at zero, the idealized reference runs to its end: the
    result holds the table's first 8192 rows, the arguments are as they were, and every counter is at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v1) = Rows.firstRows (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c).1.trans (looked_eq _ _), (h c).2⟩, sem_eq_zero_of_no_sems (by decide) r.2⟩)
    (Value.run m ρ)

end Run

end Cert.Proof.Lookup

end
-- ==== Proof.lean ====
/-
  The certificate's proof: each claim from the two runs, the kernel's (Launch.lean) and the reference's (Lookup.lean).
  Both end with the result at the table's first 8192 rows, over any float values. Each run is written once, over the
  idealized program's text; the program as compiled has the same text, so its claims are the same run at its own floats.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Launch
public import proofs.«01_k».proof.Proof.Lookup

@[expose] public section

noncomputable section

namespace Cert.Proof

open Idealize.ShloMosaic Idealize.SL.Sem

/-! ## The frames: both programs and both references run to their end, arguments unchanged, every counter at zero -/

/-- The idealized kernel; -/
theorem frame_kernelIdeal : Cert.quiescent_KernelIdeal := fun m g _ =>
  (θ_run Cert.KernelIdeal.defs _ _).mono (fun _ h => ⟨fun c => ⟨(h.1 c).1, (h.1 c).2.1⟩, h.2⟩) (Launch.run_main (F := Ideal) m g)

/-- the kernel as compiled, by the same run; -/
theorem frame_kernel : Cert.quiescent_Kernel := fun m g _ =>
  (θ_run Cert.KernelIdeal.defs _ _).mono (fun _ h => ⟨fun c => ⟨(h.1 c).1, (h.1 c).2.1⟩, h.2⟩) (Launch.run_main (F := Bits) m g)

/-- the idealized reference; -/
theorem frame_referenceIdeal : Cert.quiescent_ReferenceIdeal := fun m g _ =>
  (θ_run Cert.ReferenceIdeal.defs _ _).mono (fun _ h => ⟨fun c => (h.1 c).2, h.2⟩) (Lookup.run (F := Ideal) m g)

/-- the reference as compiled, by the same run. -/
theorem frame_reference : Cert.quiescent_Reference := fun m g _ =>
  (θ_run Cert.ReferenceIdeal.defs _ _).mono (fun _ h => ⟨fun c => (h.1 c).2, h.2⟩) (Lookup.run (F := Bits) m g)

/-! ## The values: from memories agreeing on the arguments, both end with the same result -/

/-- The idealized kernel and the idealized reference both end with the table's first 8192 rows. -/
theorem algebraic : Cert.algebraic_KernelIdeal_ReferenceIdeal := fun m g m' g' _ h =>
  ⟨fun c => Launch.rows m c,
    (θ_run Cert.KernelIdeal.defs _ _).mono (fun _ r c => ⟨(r.1 c).2.2, (r.1 c).1, (r.1 c).2.1⟩) (Launch.run_main (F := Ideal) m g),
    (θ_run Cert.ReferenceIdeal.defs _ _).mono (fun _ r c => ⟨(r.1 c).1.trans (congrArg Rows.firstRows (h c).2), (r.1 c).2⟩)
      (Lookup.run (F := Ideal) m' g')⟩

/-- So do the kernel and the reference as compiled, bit for bit. -/
theorem bitexact : Cert.bitexact_Kernel_Reference := fun m g m' g' _ h =>
  ⟨fun c => Launch.rows (F := Bits) m c,
    (θ_run Cert.KernelIdeal.defs _ _).mono (fun _ r c => ⟨(r.1 c).2.2, (r.1 c).1, (r.1 c).2.1⟩) (Launch.run_main (F := Bits) m g),
    (θ_run Cert.ReferenceIdeal.defs _ _).mono (fun _ r c => ⟨(r.1 c).1.trans (congrArg Rows.firstRows (h c).2), (r.1 c).2⟩)
      (Lookup.run (F := Bits) m' g')⟩

/-! ## The certificate -/

/-- Every claim of the certificate. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
